-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x80x3000 : Shape := ⟨4, ![64, 1, 80, 3000]⟩
abbrev S64x80x3000 : Shape := ⟨3, ![64, 80, 3000]⟩
abbrev S160 : Shape := ⟨1, ![160]⟩
abbrev S160x1 : Shape := ⟨2, ![160, 1]⟩
abbrev S_ : Shape := ⟨0, ![]⟩
abbrev S1x160 : Shape := ⟨2, ![1, 160]⟩
abbrev S160x160 : Shape := ⟨2, ![160, 160]⟩
abbrev S80 : Shape := ⟨1, ![80]⟩
abbrev S3000 : Shape := ⟨1, ![3000]⟩
abbrev S80x1 : Shape := ⟨2, ![80, 1]⟩
abbrev S1x3000 : Shape := ⟨2, ![1, 3000]⟩
abbrev S80x3000 : Shape := ⟨2, ![80, 3000]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2x80x3000 : Shape := ⟨3, ![2, 80, 3000]⟩
abbrev S1x80x3000 : Shape := ⟨3, ![1, 80, 3000]⟩
abbrev S80x256 : Shape := ⟨2, ![80, 256]⟩
abbrev S80x184 : Shape := ⟨2, ![80, 184]⟩
abbrev S80x72 : Shape := ⟨2, ![80, 72]⟩
abbrev S1x80x256 : Shape := ⟨3, ![1, 80, 256]⟩
abbrev S12x80x256 : Shape := ⟨3, ![12, 80, 256]⟩
abbrev S80x56 : Shape := ⟨2, ![80, 56]⟩
abbrev S80x200 : Shape := ⟨2, ![80, 200]⟩
abbrev S11x80x256 : Shape := ⟨3, ![11, 80, 256]⟩
abbrev S80x128 : Shape := ⟨2, ![80, 128]⟩
abbrev S160x3000 : Shape := ⟨2, ![160, 3000]⟩

abbrev nBuf : Space → Nat
  | .hbm => 150
  | .vmem => 8
  | .smem => 0
  | _ => 0

abbrev hbmTy0_0 (i : Nat) : BufTy := match i % 128 with
  | 0 => ⟨S64x1x80x3000, .f32⟩
  | 1 => ⟨S64x80x3000, .f32⟩
  | 2 => ⟨S160, .i32⟩
  | 3 => ⟨S160x1, .i32⟩
  | 4 => ⟨S_, .i32⟩
  | 5 => ⟨S_, .i32⟩
  | 6 => ⟨S160x1, .i32⟩
  | 7 => ⟨S160x1, .i32⟩
  | 8 => ⟨S160x1, .i32⟩
  | 9 => ⟨S_, .i32⟩
  | 10 => ⟨S160x1, .i32⟩
  | 11 => ⟨S160x1, .i1⟩
  | 12 => ⟨S160x1, .i32⟩
  | 13 => ⟨S160x1, .i32⟩
  | 14 => ⟨S_, .i32⟩
  | 15 => ⟨S160x1, .i32⟩
  | 16 => ⟨S160x1, .i1⟩
  | 17 => ⟨S160x1, .i1⟩
  | 18 => ⟨S_, .i32⟩
  | 19 => ⟨S160x1, .i32⟩
  | 20 => ⟨S160x1, .i32⟩
  | 21 => ⟨S160x1, .i32⟩
  | 22 => ⟨S1x160, .i32⟩
  | 23 => ⟨S_, .i32⟩
  | 24 => ⟨S_, .i32⟩
  | 25 => ⟨S1x160, .i32⟩
  | 26 => ⟨S1x160, .i32⟩
  | 27 => ⟨S1x160, .i32⟩
  | 28 => ⟨S_, .i32⟩
  | 29 => ⟨S1x160, .i32⟩
  | 30 => ⟨S1x160, .i1⟩
  | 31 => ⟨S1x160, .i32⟩
  | 32 => ⟨S1x160, .i32⟩
  | 33 => ⟨S_, .i32⟩
  | 34 => ⟨S1x160, .i32⟩
  | 35 => ⟨S1x160, .i1⟩
  | 36 => ⟨S1x160, .i1⟩
  | 37 => ⟨S_, .i32⟩
  | 38 => ⟨S1x160, .i32⟩
  | 39 => ⟨S1x160, .i32⟩
  | 40 => ⟨S1x160, .i32⟩
  | 41 => ⟨S160x160, .i32⟩
  | 42 => ⟨S160x160, .i32⟩
  | 43 => ⟨S160x160, .i1⟩
  | 44 => ⟨S160x1, .i32⟩
  | 45 => ⟨S1x160, .i32⟩
  | 46 => ⟨S160x160, .i32⟩
  | 47 => ⟨S160x160, .i32⟩
  | 48 => ⟨S160x160, .i32⟩
  | 49 => ⟨S160x160, .i32⟩
  | 50 => ⟨S_, .i32⟩
  | 51 => ⟨S160x160, .i32⟩
  | 52 => ⟨S160x160, .i1⟩
  | 53 => ⟨S160x160, .i1⟩
  | 54 => ⟨S160x160, .bf16⟩
  | 55 => ⟨S80, .i32⟩
  | 56 => ⟨S_, .i32⟩
  | 57 => ⟨S80, .i32⟩
  | 58 => ⟨S80, .i32⟩
  | 59 => ⟨S_, .i32⟩
  | 60 => ⟨S80, .i32⟩
  | 61 => ⟨S80, .i32⟩
  | 62 => ⟨S_, .i32⟩
  | 63 => ⟨S80, .i32⟩
  | 64 => ⟨S80, .i32⟩
  | 65 => ⟨S_, .i32⟩
  | 66 => ⟨S80, .i32⟩
  | 67 => ⟨S80, .i32⟩
  | 68 => ⟨S80, .i32⟩
  | 69 => ⟨S_, .i32⟩
  | 70 => ⟨S80, .i32⟩
  | 71 => ⟨S80, .i32⟩
  | 72 => ⟨S3000, .i32⟩
  | 73 => ⟨S_, .i32⟩
  | 74 => ⟨S3000, .i32⟩
  | 75 => ⟨S3000, .i32⟩
  | 76 => ⟨S_, .i32⟩
  | 77 => ⟨S3000, .i32⟩
  | 78 => ⟨S3000, .i32⟩
  | 79 => ⟨S_, .i32⟩
  | 80 => ⟨S3000, .i32⟩
  | 81 => ⟨S3000, .i32⟩
  | 82 => ⟨S_, .i32⟩
  | 83 => ⟨S3000, .i32⟩
  | 84 => ⟨S3000, .i32⟩
  | 85 => ⟨S3000, .i32⟩
  | 86 => ⟨S_, .i32⟩
  | 87 => ⟨S3000, .i32⟩
  | 88 => ⟨S3000, .i32⟩
  | 89 => ⟨S80x1, .i32⟩
  | 90 => ⟨S1x3000, .i32⟩
  | 91 => ⟨S80x3000, .i32⟩
  | 92 => ⟨S80x3000, .i32⟩
  | 93 => ⟨S80x3000, .i32⟩
  | 94 => ⟨S80x3000, .f32⟩
  | 95 => ⟨S_, .f32⟩
  | 96 => ⟨S80x3000, .f32⟩
  | 97 => ⟨S80x3000, .f32⟩
  | 98 => ⟨S256, .i32⟩
  | 99 => ⟨S256x1, .i32⟩
  | 100 => ⟨S1x256, .i32⟩
  | 101 => ⟨S256x256, .i32⟩
  | 102 => ⟨S256x256, .i32⟩
  | 103 => ⟨S256x256, .i32⟩
  | 104 => ⟨S256x256, .i32⟩
  | 105 => ⟨S_, .i32⟩
  | 106 => ⟨S256x256, .i32⟩
  | 107 => ⟨S256x256, .i1⟩
  | 108 => ⟨S256x256, .bf16⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S3000, .i32⟩
  | 116 => ⟨S3000, .i32⟩
  | 117 => ⟨S_, .i32⟩
  | 118 => ⟨S3000, .i32⟩
  | 119 => ⟨S3000, .i1⟩
  | 120 => ⟨S_, .i32⟩
  | 121 => ⟨S3000, .i32⟩
  | 122 => ⟨S3000, .i1⟩
  | 123 => ⟨S_, .i32⟩
  | 124 => ⟨S_, .i1⟩
  | 125 => ⟨S3000, .i1⟩
  | 126 => ⟨S3000, .i1⟩
  | 127 => ⟨S3000, .i1⟩
  | _ => ⟨S64x1x80x3000, .f32⟩

abbrev hbmTy0_1 (i : Nat) : BufTy := match i % 128 with
  | 0 => ⟨S3000, .i32⟩
  | 1 => ⟨S3000, .i32⟩
  | 2 => ⟨S3000, .i32⟩
  | 3 => ⟨S_, .i32⟩
  | 4 => ⟨S3000, .i32⟩
  | 5 => ⟨S3000, .i1⟩
  | 6 => ⟨S_, .i32⟩
  | 7 => ⟨S3000, .i32⟩
  | 8 => ⟨S3000, .i1⟩
  | 9 => ⟨S3000, .i1⟩
  | 10 => ⟨S_, .i32⟩
  | 11 => ⟨S3000, .i32⟩
  | 12 => ⟨S3000, .i1⟩
  | 13 => ⟨S3000, .i1⟩
  | 14 => ⟨S_, .i32⟩
  | 15 => ⟨S3000, .i32⟩
  | 16 => ⟨S3000, .i1⟩
  | 17 => ⟨S3000, .i1⟩
  | 18 => ⟨S3000, .f32⟩
  | 19 => ⟨S80x3000, .f32⟩
  | 20 => ⟨S64x80x3000, .f32⟩
  | 21 => ⟨S64x1x80x3000, .f32⟩
  | _ => ⟨S64x1x80x3000, .f32⟩

abbrev hbmTy (i : Nat) : BufTy := match i / 128 with
  | 0 => hbmTy0_0 i
  | 1 => hbmTy0_1 i
  | _ => ⟨S64x1x80x3000, .f32⟩

abbrev bufTy : (tb : Table) → Fin (tcTables nBuf tb) → BufTy
  | .hbm, ⟨i, _⟩ => hbmTy i
  | .local _ .vmem, ⟨0, _⟩ => ⟨S2x80x3000, .f32⟩
  | .local _ .vmem, ⟨1, _⟩ => ⟨S2x80x3000, .f32⟩
  | .local _ .vmem, ⟨2, _⟩ => ⟨S160x160, .bf16⟩
  | .local _ .vmem, ⟨3, _⟩ => ⟨S256x256, .bf16⟩
  | .local _ .vmem, ⟨4, _⟩ => ⟨S80x3000, .f32⟩
  | .local _ .vmem, ⟨5, _⟩ => ⟨S80x3000, .f32⟩
  | .local _ .vmem, ⟨6, _⟩ => ⟨S2x80x3000, .f32⟩
  | .local _ .vmem, ⟨7, _⟩ => ⟨S2x80x3000, .f32⟩
  | _, _ => ⟨S64x1x80x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c_2 : Ref sig .tc := ⟨.hbm, 56, rfl⟩
abbrev main_v20 : Ref sig .tc := ⟨.hbm, 57, rfl⟩
abbrev main_v21 : Ref sig .tc := ⟨.hbm, 58, rfl⟩
abbrev main_c_3 : Ref sig .tc := ⟨.hbm, 59, rfl⟩
abbrev main_v22 : Ref sig .tc := ⟨.hbm, 60, rfl⟩
abbrev main_v23 : Ref sig .tc := ⟨.hbm, 61, rfl⟩
abbrev main_c_4 : Ref sig .tc := ⟨.hbm, 62, rfl⟩
abbrev main_v24 : Ref sig .tc := ⟨.hbm, 63, rfl⟩
abbrev main_v25 : Ref sig .tc := ⟨.hbm, 64, rfl⟩
abbrev main_c_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_c_6 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_7 : Ref sig .tc := ⟨.hbm, 73, rfl⟩
abbrev main_v32 : Ref sig .tc := ⟨.hbm, 74, rfl⟩
abbrev main_v33 : Ref sig .tc := ⟨.hbm, 75, rfl⟩
abbrev main_c_8 : Ref sig .tc := ⟨.hbm, 76, rfl⟩
abbrev main_v34 : Ref sig .tc := ⟨.hbm, 77, rfl⟩
abbrev main_v35 : Ref sig .tc := ⟨.hbm, 78, rfl⟩
abbrev main_c_9 : Ref sig .tc := ⟨.hbm, 79, rfl⟩
abbrev main_v36 : Ref sig .tc := ⟨.hbm, 80, rfl⟩
abbrev main_v37 : Ref sig .tc := ⟨.hbm, 81, rfl⟩
abbrev main_c_10 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_11 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_12 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_13 : Ref sig .tc := ⟨.hbm, 109, rfl⟩
abbrev main_call2_v0 : Ref sig .tc := ⟨.hbm, 110, rfl⟩
abbrev main_call2_c : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_c_1 : Ref sig .tc := ⟨.hbm, 117, rfl⟩
abbrev main_call2_v5 : Ref sig .tc := ⟨.hbm, 118, rfl⟩
abbrev main_call2_v6 : Ref sig .tc := ⟨.hbm, 119, rfl⟩
abbrev main_call2_c_2 : Ref sig .tc := ⟨.hbm, 120, rfl⟩
abbrev main_call2_v7 : Ref sig .tc := ⟨.hbm, 121, rfl⟩
abbrev main_call2_v8 : Ref sig .tc := ⟨.hbm, 122, rfl⟩
abbrev main_call2_c_3 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_v61 : Ref sig .tc := ⟨.hbm, 130, rfl⟩
abbrev main_c_14 : Ref sig .tc := ⟨.hbm, 131, rfl⟩
abbrev main_v62 : Ref sig .tc := ⟨.hbm, 132, rfl⟩
abbrev main_v63 : Ref sig .tc := ⟨.hbm, 133, rfl⟩
abbrev main_c_15 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_c_16 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_c_17 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x80x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x3000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x3000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x80x3000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x1x80x3000 : Shape := ⟨4, ![64, 1, 80, 3000]⟩
abbrev S_ : Shape := ⟨0, ![]⟩
abbrev S1x1x80x3000 : Shape := ⟨4, ![1, 1, 80, 3000]⟩

abbrev nBuf : Space → Nat
  | .hbm => 23
  | .vmem => 0
  | .smem => 0
  | _ => 0

abbrev bufTy : (tb : Table) → Fin (tcTables nBuf tb) → BufTy
  | .hbm, ⟨0, _⟩ => ⟨S64x1x80x3000, .f32⟩
  | .hbm, ⟨1, _⟩ => ⟨S_, .f32⟩
  | .hbm, ⟨2, _⟩ => ⟨S1x1x80x3000, .f32⟩
  | .hbm, ⟨3, _⟩ => ⟨S_, .f32⟩
  | .hbm, ⟨4, _⟩ => ⟨S_, .f32⟩
  | .hbm, ⟨5, _⟩ => ⟨S1x1x80x3000, .f32⟩
  | .hbm, ⟨6, _⟩ => ⟨S_, .f32⟩
  | .hbm, ⟨7, _⟩ => ⟨S_, .f32⟩
  | .hbm, ⟨8, _⟩ => ⟨S64x1x80x3000, .f32⟩
  | .hbm, ⟨9, _⟩ => ⟨S64x1x80x3000, .f32⟩
  | .hbm, ⟨10, _⟩ => ⟨S64x1x80x3000, .f32⟩
  | .hbm, ⟨11, _⟩ => ⟨S64x1x80x3000, .f32⟩
  | .hbm, ⟨12, _⟩ => ⟨S64x1x80x3000, .f32⟩
  | .hbm, ⟨13, _⟩ => ⟨S_, .f32⟩
  | .hbm, ⟨14, _⟩ => ⟨S_, .f32⟩
  | .hbm, ⟨15, _⟩ => ⟨S64x1x80x3000, .f32⟩
  | .hbm, ⟨16, _⟩ => ⟨S64x1x80x3000, .f32⟩
  | .hbm, ⟨17, _⟩ => ⟨S64x1x80x3000, .f32⟩
  | .hbm, ⟨18, _⟩ => ⟨S64x1x80x3000, .f32⟩
  | .hbm, ⟨19, _⟩ => ⟨S_, .f32⟩
  | .hbm, ⟨20, _⟩ => ⟨S64x1x80x3000, .f32⟩
  | .hbm, ⟨21, _⟩ => ⟨S64x1x80x3000, .f32⟩
  | .hbm, ⟨22, _⟩ => ⟨S64x1x80x3000, .f32⟩
  | _, _ => ⟨S64x1x80x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Slab.lean ====
/-
  The kernel's banded row sum as ONE function of a slab of an image. The kernel cuts an 80 x 3000 slab into 256-wide
  tiles twice (at offset 0 and at offset 128), multiplies the two stacks by one 256 x 256 band, glues the products back
  into slabs and takes one or the other by a mask (`boxW`); it then contracts two slabs stacked above each other with
  one 160 x 160 block band (`colSum`). The printed body spells this four times over; here each is named, and the two
  stores of the body are shown to be `normA` and `normB` of these.
-/
module

public import proofs.«01_k».proof.Defs
public import proofs.«01_k».proof.Proof.Gen.KernelIdeal.Frame

@[expose] public section

set_option maxRecDepth 16384

noncomputable section

namespace Cert.KernelIdeal.Local

open Idealize.ShloMosaic Idealize.SL.Sem
open Cert.KernelIdeal Cert.KernelIdeal.Gen

variable {F : FTy → Type} [FloatOps F]

/-- Columns `o … o + 255` of a slab, as a stack of one tile. -/
def tileAt (y : FVec F S80x3000 .bf16) (o : Nat) (h : S80x3000.Slices ![0, o] S80x256) : FVec F S1x80x256 .bf16 :=
  shapeCast S1x80x256 (extractStridedSlice S80x256 ![0, o] y h) shapeCasts_S80x256_S1x80x256

/-- The last tile of the aligned tiling: columns 2816 … 2999, then zeros. -/
def lastA (y : FVec F S80x3000 .bf16) : FVec F S1x80x256 .bf16 :=
  shapeCast S1x80x256
    (concatenate S80x256 1 [⟨S80x184, extractStridedSlice S80x184 ![0, 2816] y slices_S80x3000_o0_2816_S80x184⟩,
      ⟨S80x72, broadcast S80x72 (Scalar.ofBits .bf16 0x0000#16)⟩] concatenates_S80x184_S80x72_S80x256_d1)
    shapeCasts_S80x256_S1x80x256

/-- The last tile of the shifted tiling: columns 2944 … 2999, then zeros. -/
def lastB (y : FVec F S80x3000 .bf16) : FVec F S1x80x256 .bf16 :=
  shapeCast S1x80x256
    (concatenate S80x256 1 [⟨S80x56, extractStridedSlice S80x56 ![0, 2944] y slices_S80x3000_o0_2944_S80x56⟩,
      ⟨S80x200, broadcast S80x200 (Scalar.ofBits .bf16 0x0000#16)⟩] concatenates_S80x56_S80x200_S80x256_d1)
    shapeCasts_S80x256_S1x80x256

/-- The aligned tiles: tile `t` starts at column `256 * t`. -/
def tilesA (y : FVec F S80x3000 .bf16) : FVec F S12x80x256 .bf16 :=
  concatenate S12x80x256 0
    [⟨S1x80x256, tileAt y 0 slices_S80x3000_o0_0_S80x256⟩,
     ⟨S1x80x256, tileAt y 256 slices_S80x3000_o0_256_S80x256⟩,
     ⟨S1x80x256, tileAt y 512 slices_S80x3000_o0_512_S80x256⟩,
     ⟨S1x80x256, tileAt y 768 slices_S80x3000_o0_768_S80x256⟩,
     ⟨S1x80x256, tileAt y 1024 slices_S80x3000_o0_1024_S80x256⟩,
     ⟨S1x80x256, tileAt y 1280 slices_S80x3000_o0_1280_S80x256⟩,
     ⟨S1x80x256, tileAt y 1536 slices_S80x3000_o0_1536_S80x256⟩,
     ⟨S1x80x256, tileAt y 1792 slices_S80x3000_o0_1792_S80x256⟩,
     ⟨S1x80x256, tileAt y 2048 slices_S80x3000_o0_2048_S80x256⟩,
     ⟨S1x80x256, tileAt y 2304 slices_S80x3000_o0_2304_S80x256⟩,
     ⟨S1x80x256, tileAt y 2560 slices_S80x3000_o0_2560_S80x256⟩,
     ⟨S1x80x256, lastA y⟩]
    concatenates_S1x80x256_S1x80x256_S1x80x256_S1x80x256_S1x80x256_S1x80x256_S1x80x256_S1x80x256_S1x80x256_S1x80x256_S1x80x256_S1x80x256_S12x80x256_d0

/-- The shifted tiles: tile `t` starts at column `128 + 256 * t`. -/
def tilesB (y : FVec F S80x3000 .bf16) : FVec F S12x80x256 .bf16 :=
  concatenate S12x80x256 0
    [⟨S1x80x256, tileAt y 128 slices_S80x3000_o0_128_S80x256⟩,
     ⟨S1x80x256, tileAt y 384 slices_S80x3000_o0_384_S80x256⟩,
     ⟨S1x80x256, tileAt y 640 slices_S80x3000_o0_640_S80x256⟩,
     ⟨S1x80x256, tileAt y 896 slices_S80x3000_o0_896_S80x256⟩,
     ⟨S1x80x256, tileAt y 1152 slices_S80x3000_o0_1152_S80x256⟩,
     ⟨S1x80x256, tileAt y 1408 slices_S80x3000_o0_1408_S80x256⟩,
     ⟨S1x80x256, tileAt y 1664 slices_S80x3000_o0_1664_S80x256⟩,
     ⟨S1x80x256, tileAt y 1920 slices_S80x3000_o0_1920_S80x256⟩,
     ⟨S1x80x256, tileAt y 2176 slices_S80x3000_o0_2176_S80x256⟩,
     ⟨S1x80x256, tileAt y 2432 slices_S80x3000_o0_2432_S80x256⟩,
     ⟨S1x80x256, tileAt y 2688 slices_S80x3000_o0_2688_S80x256⟩,
     ⟨S1x80x256, lastB y⟩]
    concatenates_S1x80x256_S1x80x256_S1x80x256_S1x80x256_S1x80x256_S1x80x256_S1x80x256_S1x80x256_S1x80x256_S1x80x256_S1x80x256_S1x80x256_S12x80x256_d0

/-- The aligned tiles times the band. -/
def prodA (y : FVec F S80x3000 .bf16) (p : FVec F S256x256 .bf16) : FVec F S12x80x256 .f32 :=
  matmul dot_S12x80x256_S256x256_S12x80x256_2_0_01_1_n_n none (tilesA y) p (constant S12x80x256 .f32 0x00000000#32)

/-- The first eleven shifted tiles times the band. -/
def prodB (y : FVec F S80x3000 .bf16) (p : FVec F S256x256 .bf16) : FVec F S11x80x256 .f32 :=
  matmul dot_S11x80x256_S256x256_S11x80x256_2_0_01_1_n_n none
    (extractStridedSlice S11x80x256 ![0, 0, 0] (tilesB y) slices_S12x80x256_o0_0_0_S11x80x256) p
    (constant S11x80x256 .f32 0x00000000#32)

/-- One tile of the aligned products. -/
def rowA (T : FVec F S12x80x256 .f32) (t : Nat) (h : S12x80x256.Slices ![t, 0, 0] S1x80x256) : FVec F S80x256 .f32 :=
  shapeCast S80x256 (extractStridedSlice S1x80x256 ![t, 0, 0] T h) shapeCasts_S1x80x256_S80x256

/-- One tile of the shifted products. -/
def rowB (T : FVec F S11x80x256 .f32) (t : Nat) (h : S11x80x256.Slices ![t, 0, 0] S1x80x256) : FVec F S80x256 .f32 :=
  shapeCast S80x256 (extractStridedSlice S1x80x256 ![t, 0, 0] T h) shapeCasts_S1x80x256_S80x256

/-- The aligned products glued back into a slab (the last tile cut to 184 columns). -/
def joinA (T : FVec F S12x80x256 .f32) : FVec F S80x3000 .f32 :=
  concatenate S80x3000 1
    [⟨S80x256, rowA T 0 slices_S12x80x256_o0_0_0_S1x80x256⟩,
     ⟨S80x256, rowA T 1 slices_S12x80x256_o1_0_0_S1x80x256⟩,
     ⟨S80x256, rowA T 2 slices_S12x80x256_o2_0_0_S1x80x256⟩,
     ⟨S80x256, rowA T 3 slices_S12x80x256_o3_0_0_S1x80x256⟩,
     ⟨S80x256, rowA T 4 slices_S12x80x256_o4_0_0_S1x80x256⟩,
     ⟨S80x256, rowA T 5 slices_S12x80x256_o5_0_0_S1x80x256⟩,
     ⟨S80x256, rowA T 6 slices_S12x80x256_o6_0_0_S1x80x256⟩,
     ⟨S80x256, rowA T 7 slices_S12x80x256_o7_0_0_S1x80x256⟩,
     ⟨S80x256, rowA T 8 slices_S12x80x256_o8_0_0_S1x80x256⟩,
     ⟨S80x256, rowA T 9 slices_S12x80x256_o9_0_0_S1x80x256⟩,
     ⟨S80x256, rowA T 10 slices_S12x80x256_o10_0_0_S1x80x256⟩,
     ⟨S80x184, extractStridedSlice S80x184 ![0, 0] (rowA T 11 slices_S12x80x256_o11_0_0_S1x80x256)
        slices_S80x256_o0_0_S80x184⟩]
    concatenates_S80x256_S80x256_S80x256_S80x256_S80x256_S80x256_S80x256_S80x256_S80x256_S80x256_S80x256_S80x184_S80x3000_d1

/-- The shifted products glued back into a slab, with zeros in the first 128 and the last 56 columns. -/
def joinB (T : FVec F S11x80x256 .f32) : FVec F S80x3000 .f32 :=
  concatenate S80x3000 1
    [⟨S80x128, broadcast S80x128 (Scalar.ofBits .f32 0x00000000#32)⟩,
     ⟨S80x256, rowB T 0 slices_S11x80x256_o0_0_0_S1x80x256⟩,
     ⟨S80x256, rowB T 1 slices_S11x80x256_o1_0_0_S1x80x256⟩,
     ⟨S80x256, rowB T 2 slices_S11x80x256_o2_0_0_S1x80x256⟩,
     ⟨S80x256, rowB T 3 slices_S11x80x256_o3_0_0_S1x80x256⟩,
     ⟨S80x256, rowB T 4 slices_S11x80x256_o4_0_0_S1x80x256⟩,
     ⟨S80x256, rowB T 5 slices_S11x80x256_o5_0_0_S1x80x256⟩,
     ⟨S80x256, rowB T 6 slices_S11x80x256_o6_0_0_S1x80x256⟩,
     ⟨S80x256, rowB T 7 slices_S11x80x256_o7_0_0_S1x80x256⟩,
     ⟨S80x256, rowB T 8 slices_S11x80x256_o8_0_0_S1x80x256⟩,
     ⟨S80x256, rowB T 9 slices_S11x80x256_o9_0_0_S1x80x256⟩,
     ⟨S80x256, rowB T 10 slices_S11x80x256_o10_0_0_S1x80x256⟩,
     ⟨S80x56, broadcast S80x56 (Scalar.ofBits .f32 0x00000000#32)⟩]
    concatenates_S80x128_S80x256_S80x256_S80x256_S80x256_S80x256_S80x256_S80x256_S80x256_S80x256_S80x256_S80x256_S80x56_S80x3000_d1

/-- The banded row sum of a slab: the shifted tiling's where the mask is positive, else the aligned tiling's. -/
def boxW (y : FVec F S80x3000 .bf16) (p : FVec F S256x256 .bf16) (mk : FVec F S80x3000 .f32) : FVec F S80x3000 .f32 :=
  select (cmpf .ogt mk (broadcast S80x3000 (Scalar.ofBits .f32 0x00000000#32))) (joinB (prodB y p)) (joinA (prodA y p))

/-- Two slabs above each other, contracted over their rows with the block band. -/
def colSum (b : FVec F S160x160 .bf16) (u v : FVec F S80x3000 .f32) : FVec F S160x3000 .f32 :=
  matmul dot_S160x160_S160x3000_S160x3000_0_0_1_1_n_n none b
    (truncf .bf16 (concatenate S160x3000 0 [⟨S80x3000, u⟩, ⟨S80x3000, v⟩] concatenates_S80x3000_S80x3000_S160x3000_d0)
      bitsLt_bf16_f32) (constant S160x3000 .f32 0x00000000#32)

/-- The upper slab of a stack of two. -/
def top (z : FVec F S160x3000 .f32) : FVec F S80x3000 .f32 :=
  extractStridedSlice S80x3000 ![0, 0] z slices_S160x3000_o0_0_S80x3000

/-- The lower slab of a stack of two. -/
def bot (z : FVec F S160x3000 .f32) : FVec F S80x3000 .f32 :=
  extractStridedSlice S80x3000 ![80, 0] z slices_S160x3000_o80_0_S80x3000

/-- The two-dimensional box sums of two slabs at once, stacked. -/
def boxes (b : FVec F S160x160 .bf16) (p : FVec F S256x256 .bf16) (mk x y : FVec F S80x3000 .f32) :
    FVec F S160x3000 .f32 :=
  colSum b (boxW (truncf .bf16 x bitsLt_bf16_f32) p mk) (boxW (truncf .bf16 y bitsLt_bf16_f32) p mk)

/-- The first slab minus its local mean. -/
def centA (b : FVec F S160x160 .bf16) (p : FVec F S256x256 .bf16) (ic mk x y : FVec F S80x3000 .f32) :
    FVec F S80x3000 .f32 := subf x (mulf (top (boxes b p mk x y)) ic)

/-- The second slab minus its local mean. -/
def centB (b : FVec F S160x160 .bf16) (p : FVec F S256x256 .bf16) (ic mk x y : FVec F S80x3000 .f32) :
    FVec F S80x3000 .f32 := subf y (mulf (bot (boxes b p mk x y)) ic)

/-- The box sums of the squares of the two centred slabs, stacked. -/
def sqs (b : FVec F S160x160 .bf16) (p : FVec F S256x256 .bf16) (ic mk x y : FVec F S80x3000 .f32) :
    FVec F S160x3000 .f32 :=
  boxes b p mk (mulf (centA b p ic mk x y) (centA b p ic mk x y)) (mulf (centB b p ic mk x y) (centB b p ic mk x y))

/-- A centred slab divided by its local deviation plus the small constant. -/
def over (c v ic : FVec F S80x3000 .f32) : FVec F S80x3000 .f32 :=
  divf c (addf (sqrt (mulf v ic)) (broadcast S80x3000 (Scalar.ofBits .f32 0x322BCC77#32)))

/-- The first slab normalised. -/
def normA (b : FVec F S160x160 .bf16) (p : FVec F S256x256 .bf16) (ic mk x y : FVec F S80x3000 .f32) :
    FVec F S80x3000 .f32 := over (centA b p ic mk x y) (top (sqs b p ic mk x y)) ic

/-- The second slab normalised. -/
def normB (b : FVec F S160x160 .bf16) (p : FVec F S256x256 .bf16) (ic mk x y : FVec F S80x3000 .f32) :
    FVec F S80x3000 .f32 := over (centB b p ic mk x y) (bot (sqs b p ic mk x y)) ic

variable (x0 : Vec F S2x80x3000 .f32) (x1 : Vec F S160x160 .bf16) (x2 : Vec F S256x256 .bf16)
  (x3 : Vec F S80x3000 .f32) (x4 : Vec F S80x3000 .f32)

/-- The first image of a loaded block, as a slab. -/
def slab0 (x0 : Vec F S2x80x3000 .f32) : FVec F S80x3000 .f32 :=
  shapeCast S80x3000 (View.ld x0 r0_3) shapeCasts_S1x80x3000_S80x3000

/-- The second image of a loaded block, as a slab. -/
def slab1 (x0 : Vec F S2x80x3000 .f32) : FVec F S80x3000 .f32 :=
  shapeCast S80x3000 (View.ld x0 r0_4) shapeCasts_S1x80x3000_S80x3000

/-- What one grid point leaves in the block it writes: the second image normalised in the second half, the first
    image normalised in the first. -/
theorem out_eq : out0_5 x0 x1 x2 x3 x4 = View.canon
    [⟨r0_4, shapeCast S1x80x3000 (normB (k0_pay2 (View.ld x1 r0_0)) (k0_pay3 (View.ld x2 r0_1)) (k0_pay4 (View.ld x3 r0_2))
        (k0_pay5 (View.ld x4 r0_2)) (slab0 x0) (slab1 x0)) shapeCasts_S80x3000_S1x80x3000⟩,
     ⟨r0_3, shapeCast S1x80x3000 (normA (k0_pay2 (View.ld x1 r0_0)) (k0_pay3 (View.ld x2 r0_1)) (k0_pay4 (View.ld x3 r0_2))
        (k0_pay5 (View.ld x4 r0_2)) (slab0 x0) (slab1 x0)) shapeCasts_S80x3000_S1x80x3000⟩] := rfl

end Cert.KernelIdeal.Local
-- ==== Proof.Box.lean ====
/-
  Sums over a window, as the two programs form them, over the extended reals. `near a b` says that two positions are
  at most 16 apart; `winSum f j` is the sum of `f` over the positions below `n` near `j`, and `boxSum` the same in two
  dimensions. Proved here: a window's sum read through a longer stretch that contains the window, and through the 33
  offsets of a padded sliding window; the number of positions in a window; and that multiplying by the inverse of a
  count is dividing by it.
-/
module

public import Idealize.ShloMosaic.PureOps.Ideal
public import Mathlib.Algebra.BigOperators.Intervals

@[expose] public section

namespace Cert.LocalNorm

open Idealize.ShloMosaic

/-- Two positions at most 16 apart. -/
def near (a b : Nat) : Prop := a ≤ b + 16 ∧ b ≤ a + 16

instance (a b : Nat) : Decidable (near a b) := inferInstanceAs (Decidable (_ ∧ _))

/-- A finite sequence continued by zeros. -/
noncomputable def ext {n : Nat} (f : Fin n → EReal) (k : Nat) : EReal := if h : k < n then f ⟨k, h⟩ else 0

/-- Below its length the continued sequence is the sequence. -/
theorem ext_lt {n : Nat} (f : Fin n → EReal) {k : Nat} (h : k < n) : ext f k = f ⟨k, h⟩ := dif_pos h

/-- From its length on the continued sequence is zero. -/
theorem ext_ge {n : Nat} (f : Fin n → EReal) {k : Nat} (h : n ≤ k) : ext f k = 0 := dif_neg (by omega)

/-- The sum of a finite sequence over the positions near `j`. -/
noncomputable def winSum {n : Nat} (f : Fin n → EReal) (j : Nat) : EReal := ∑ q : Fin n, if near q j then f q else 0

/-- A window's sum as a sum over all numbers below any bound that is long enough. -/
theorem winSum_eq_range {n : Nat} (f : Fin n → EReal) (j N : Nat) (hN : n ≤ N) :
    winSum f j = ∑ k ∈ Finset.range N, if near k j then ext f k else 0 := by
  have h1 : winSum f j = ∑ k ∈ Finset.range n, if near k j then ext f k else 0 := by
    rw [Finset.sum_range]
    exact Finset.sum_congr rfl fun q _ => by rw [ext_lt f q.isLt]
  rw [h1]
  refine Finset.sum_subset (fun a ha => ?_) fun a _ ha => ?_
  · rw [Finset.mem_range] at ha ⊢; omega
  · rw [Finset.mem_range] at ha; rw [ext_ge f (by omega), ite_self]

/-- A stretch of `w` positions from `o` on that holds every position of the sequence near `j` sums to `j`'s window. -/
theorem sum_stretch {n : Nat} (f : Fin n → EReal) (j o w : Nat)
    (h : ∀ q, q < n → near q j → o ≤ q ∧ q < o + w) :
    (∑ k : Fin w, if near (o + k) j then ext f (o + k) else 0) = winSum f j := by
  rw [winSum_eq_range f j (n + (o + w)) (by omega)]
  have h1 : (∑ k : Fin w, if near (o + k) j then ext f (o + k) else 0)
      = ∑ k ∈ Finset.Ico o (o + w), if near k j then ext f k else 0 := by
    rw [Finset.sum_Ico_eq_sum_range, Nat.add_sub_cancel_left, Finset.sum_range]
  rw [h1]
  refine Finset.sum_subset (fun a ha => ?_) fun a _ ha => ?_
  · rw [Finset.mem_Ico] at ha; rw [Finset.mem_range]; omega
  · rw [Finset.mem_Ico] at ha
    split
    · rename_i hn
      refine ext_ge f ?_
      by_contra hlt
      exact ha (h a (by omega) hn)
    · rfl

/-- The 33 offsets of a sliding window over a sequence padded by 16 zeros on either side sum to the window. -/
theorem sum_slide {n : Nat} (f : Fin n → EReal) (j : Nat) :
    (∑ a : Fin 33, if 16 ≤ j + a then ext f (j + a - 16) else 0) = winSum f j := by
  rw [winSum_eq_range f j (n + (j + 33)) (by omega)]
  have h1 : (∑ a : Fin 33, if 16 ≤ j + a then ext f (j + a - 16) else 0)
      = ∑ k ∈ Finset.range 33, if 16 ≤ j + k then ext f (j + k - 16) else 0 := by
    rw [Finset.sum_range]
  rw [h1, ← Finset.sum_filter, ← Finset.sum_filter]
  refine Finset.sum_bij_ne_zero (fun k _ _ => j + k - 16) ?_ ?_ ?_ ?_
  · intro a ha _
    simp only [Finset.mem_filter, Finset.mem_range] at ha ⊢
    unfold near; omega
  · intro a ha _ b hb _ e
    simp only [Finset.mem_filter, Finset.mem_range] at ha hb
    omega
  · intro b hb h0
    simp only [Finset.mem_filter, Finset.mem_range] at hb
    have hn := hb.2
    unfold near at hn
    refine ⟨b + 16 - j, ?_, ?_, by omega⟩
    · simp only [Finset.mem_filter, Finset.mem_range]; omega
    · rwa [show j + (b + 16 - j) - 16 = b by omega]
  · intro a _ _; rfl

/-- The number of positions below `n` near `j`, for `j` below `n`. -/
def winCount (n j : Nat) : Nat := min (j + 16) (n - 1) + 1 - (j - 16)

/-- The sum of a real constant over a window is its count times the constant. -/
theorem winSum_const {n : Nat} (j : Nat) (hj : j < n) (x : ℝ) :
    winSum (fun _ : Fin n => (x : EReal)) j = ((winCount n j * x : ℝ) : EReal) := by
  rw [winSum_eq_range _ j n le_rfl, ← Finset.sum_filter]
  have h1 : (Finset.range n).filter (fun k => near k j) = Finset.Ico (j - 16) (min (j + 16) (n - 1) + 1) := by
    ext a
    simp only [Finset.mem_filter, Finset.mem_range, Finset.mem_Ico]
    unfold near; omega
  rw [h1, Finset.sum_congr rfl (g := fun _ => (x : EReal))
    (fun k hk => by rw [Finset.mem_Ico] at hk; exact ext_lt _ (by omega))]
  rw [Finset.sum_const, Nat.card_Ico, ← EReal.coe_nsmul, nsmul_eq_mul]
  rfl

/-- A window holds at least its own place. -/
theorem winCount_pos {n j : Nat} (hj : j < n) : 0 < winCount n j := by unfold winCount; omega

/-- A window holds at most 33 places. -/
theorem winCount_le {n j : Nat} : winCount n j ≤ 33 := by unfold winCount; omega

/-- The sum of an array over the positions near `(i, j)`. -/
noncomputable def boxSum {n m : Nat} (f : Fin n → Fin m → EReal) (i j : Nat) : EReal :=
  winSum (fun r => winSum (f r) j) i

/-- Multiplying by the inverse of a positive count is dividing by it. -/
theorem mul_inv_count (x : EReal) (k : Nat) (hk : 0 < k) :
    x * Ideal.div 1 ((k : ℝ) : EReal) = Ideal.div x ((k : ℝ) : EReal) := by
  have hk' : (k : ℝ) ≠ 0 := by positivity
  rw [Ideal.div_coe hk', Ideal.div_coe hk', one_mul]

/-- The number of positions of an `n` by `m` array near `(i, j)`. -/
noncomputable def boxCount (n m i j : Nat) : EReal := ((winCount n i * winCount m j : Nat) : ℝ)

/-- An entry minus the mean of the entries near it. -/
noncomputable def centred {n m : Nat} (f : Fin n → Fin m → EReal) (i : Fin n) (j : Fin m) : EReal :=
  f i j - Ideal.div (boxSum f i j) (boxCount n m i j)

/-- An entry minus its local mean, over the square root of the local mean of the squares of such differences plus `e`. -/
noncomputable def normalised (e : EReal) {n m : Nat} (f : Fin n → Fin m → EReal) (i : Fin n) (j : Fin m) : EReal :=
  Ideal.div (centred f i j)
    (Ideal.sqrt (Ideal.div (boxSum (fun r q => centred f r q * centred f r q) i j) (boxCount n m i j)) + e)

/-- The box sum of ones is the number of positions. -/
theorem boxSum_one {n m i j : Nat} (hi : i < n) (hj : j < m) :
    boxSum (fun (_ : Fin n) (_ : Fin m) => (1 : EReal)) i j = boxCount n m i j := by
  have h1 : ∀ q : Fin n, winSum (fun _ : Fin m => (1 : EReal)) j = ((winCount m j : ℝ) : EReal) := fun _ => by
    rw [← EReal.coe_one, winSum_const j hj, mul_one]
  unfold boxSum boxCount
  rw [funext h1, winSum_const i hi]
  push_cast
  rfl

end Cert.LocalNorm
-- ==== Proof.SlabValue.lean ====
/-
  The value, over the extended reals, of the two sums that one grid point forms: the banded row sum of a slab is the
  row-window sum (`boxW_apply`), and the contraction with the block band is the column-window sum of each of the two
  slabs by itself (`colSum_top`, `colSum_bot`) — for bands and a mask that hold what their hypotheses say.
-/
module

public import proofs.«01_k».proof.Proof.Slab
public import proofs.«01_k».proof.Proof.Box
public import Idealize.ShloMosaic.Lib.Pointwise

@[expose] public section

set_option maxRecDepth 16384

noncomputable section

namespace Cert.KernelIdeal.Local

open Idealize.ShloMosaic Idealize.SL.Sem
open Cert.KernelIdeal Cert.KernelIdeal.Gen Cert.LocalNorm

/-- Two readings of a stack at coordinates of equal values. -/
theorem read_congr {α : Type} {n m k : Nat} (T : (⟨3, ![n, m, k]⟩ : Shape).Idx → α) {a a' : Fin n} (i : Fin m)
    {b b' : Fin k} (ha : a.val = a'.val) (hb : b.val = b'.val) : T (ix3 a i b) = T (ix3 a' i b') := by
  rw [Fin.ext ha, Fin.ext hb]

/-- A choice both of whose branches are `z` is `z`. -/
theorem dite_eq_of {α : Type} {c : Prop} [Decidable c] {a : c → α} {b : ¬c → α} {z : α} (ha : ∀ h, a h = z)
    (hb : ∀ h, b h = z) : dite c a b = z := by
  by_cases h : c
  · rw [dif_pos h, ha]
  · rw [dif_neg h, hb]

/-- Row `i` of a slab. -/
def slabRow {φ : FTy} (y : FVec Ideal S80x3000 φ) (i : Fin 80) : Fin 3000 → EReal := fun q => y (ix2 i q)

/-- A tile that lies within the slab holds the row from its offset on. -/
theorem tileAt_apply (y : FVec Ideal S80x3000 .bf16) (o : Nat) (h : S80x3000.Slices ![0, o] S80x256) (ho : o + 256 ≤ 3000)
    (t : Fin 1) (i : Fin 80) (l : Fin 256) : tileAt y o h (ix3 t i l) = ext (slabRow y i) (o + l) := by
  rw [ext_lt _ (by omega)]
  pointwise [tileAt]
  rfl

/-- The last unshifted tile holds the end of the row, then zeros. -/
theorem lastA_apply (y : FVec Ideal S80x3000 .bf16) (t : Fin 1) (i : Fin 80) (l : Fin 256) :
    lastA y (ix3 t i l) = ext (slabRow y i) (2816 + l) := by
  pointwise [lastA]
  split
  · rw [ext_lt _ (by omega)]; rfl
  · rw [ext_ge _ (by omega)]

/-- The last shifted tile holds the end of the row, then zeros. -/
theorem lastB_apply (y : FVec Ideal S80x3000 .bf16) (t : Fin 1) (i : Fin 80) (l : Fin 256) :
    lastB y (ix3 t i l) = ext (slabRow y i) (2944 + l) := by
  pointwise [lastB]
  split
  · rw [ext_lt _ (by omega)]; rfl
  · rw [ext_ge _ (by omega)]

/-- The aligned tile `t` at lane `l` is the row continued by zeros at `256 * t + l`. -/
theorem tilesA_apply (y : FVec Ideal S80x3000 .bf16) (t : Fin 12) (i : Fin 80) (l : Fin 256) :
    tilesA y (ix3 t i l) = ext (slabRow y i) (256 * t + l) := by
  pointwise [tilesA]
  repeat' refine dite_eq_of (fun _ => ?_) (fun _ => ?_)
  all_goals
    first
    | refine (tileAt_apply y _ _ (by decide) _ i l).trans ?_
    | refine (lastA_apply y _ i l).trans ?_
    congr 1; omega

/-- The shifted tile `t` at lane `l` is the row continued by zeros at `128 + 256 * t + l`. -/
theorem tilesB_apply (y : FVec Ideal S80x3000 .bf16) (t : Fin 12) (i : Fin 80) (l : Fin 256) :
    tilesB y (ix3 t i l) = ext (slabRow y i) (128 + 256 * t + l) := by
  pointwise [tilesB]
  repeat' refine dite_eq_of (fun _ => ?_) (fun _ => ?_)
  all_goals
    first
    | refine (tileAt_apply y _ _ (by decide) _ i l).trans ?_
    | refine (lastB_apply y _ i l).trans ?_
    congr 1; omega

/-- The glued aligned products at column `256 * t + l`. -/
theorem joinA_apply (T : FVec Ideal S12x80x256 .f32) (i : Fin 80) (j : Fin 3000) (t : Fin 12) (l : Fin 256)
    (h : j.val = 256 * t + l) : joinA T (ix2 i j) = T (ix3 t i l) := by
  pointwise [joinA, rowA]
  repeat' refine dite_eq_of (fun _ => ?_) (fun _ => ?_)
  all_goals refine read_congr T i ?_ ?_ <;> simp only [Fin.isValue, Fin.coe_ofNat_eq_mod] <;> omega

/-- The glued shifted products at column `128 + 256 * t + l`. -/
theorem joinB_apply (T : FVec Ideal S11x80x256 .f32) (i : Fin 80) (j : Fin 3000) (t : Fin 11) (l : Fin 256)
    (h : j.val = 128 + 256 * t + l) : joinB T (ix2 i j) = T (ix3 t i l) := by
  pointwise [joinB, rowB]
  repeat' refine dite_eq_of (fun _ => ?_) (fun _ => ?_)
  all_goals first
    | omega
    | (refine read_congr T i ?_ ?_ <;> simp only [Fin.isValue, Fin.coe_ofNat_eq_mod] <;> omega)

variable {p : FVec Ideal S256x256 .bf16}

/-- Lane `l` of aligned tile `t`, times the band. -/
theorem prodA_apply (hp : ∀ k l, p (ix2 k l) = if near k l then 1 else 0) (y : FVec Ideal S80x3000 .bf16)
    (t : Fin 12) (i : Fin 80) (l : Fin 256) :
    prodA y p (ix3 t i l) = ∑ k : Fin 256, if near k l then ext (slabRow y i) (256 * t + k) else 0 := by
  pointwise [prodA]
  refine Finset.sum_congr rfl fun k _ => ?_
  rw [tilesA_apply, hp]
  split <;> simp

/-- Lane `l` of shifted tile `t`, times the band. -/
theorem prodB_apply (hp : ∀ k l, p (ix2 k l) = if near k l then 1 else 0) (y : FVec Ideal S80x3000 .bf16)
    (t : Fin 11) (i : Fin 80) (l : Fin 256) :
    prodB y p (ix3 t i l) = ∑ k : Fin 256, if near k l then ext (slabRow y i) (128 + 256 * t + k) else 0 := by
  pointwise [prodB]
  refine Finset.sum_congr rfl fun k _ => ?_
  rw [tilesB_apply, hp]
  split <;> simp

/-- The columns at which the mask takes the shifted tiling: those within 16 of an inner edge of the aligned one. -/
def shifted (j : Nat) : Prop := (240 ≤ j % 256 ∨ j % 256 < 16) ∧ 240 ≤ j ∧ j < 2960

instance (j : Nat) : Decidable (shifted j) := inferInstanceAs (Decidable (_ ∧ _))

/-- Nearness depends on the difference only. -/
theorem near_shift (o k l : Nat) : near (o + k) (o + l) ↔ near k l := by unfold near; omega

/-- The banded row sum of a slab is the sum over the row's window. -/
theorem boxW_apply (hp : ∀ k l, p (ix2 k l) = if near k l then 1 else 0) {mk : FVec Ideal S80x3000 .f32}
    (hm : ∀ i j, mk (ix2 i j) = if shifted j.val then 1 else 0) (y : FVec Ideal S80x3000 .bf16) (i : Fin 80)
    (j : Fin 3000) : boxW y p mk (ix2 i j) = winSum (slabRow y i) j := by
  have hj := j.isLt
  have e : boxW y p mk (ix2 i j)
      = if shifted j.val then joinB (prodB y p) (ix2 i j) else joinA (prodA y p) (ix2 i j) := by
    pointwise [boxW]
    rw [hm]
    split <;> simp
  rw [e]
  split
  · rename_i hs
    unfold shifted at hs
    obtain ⟨t, l, hl, hj'⟩ : ∃ t l, l < 256 ∧ j.val = 128 + 256 * t + l :=
      ⟨(j.val - 128) / 256, (j.val - 128) % 256, Nat.mod_lt _ (by decide), by omega⟩
    rw [joinB_apply _ i j ⟨t, by omega⟩ ⟨l, hl⟩ hj', prodB_apply hp,
      ← sum_stretch (slabRow y i) j (128 + 256 * t) 256 (fun q hq hn => by unfold near at hn; omega)]
    refine Finset.sum_congr rfl fun k _ => ?_
    rw [hj']; simp only [near_shift]
  · rename_i hs
    unfold shifted at hs
    obtain ⟨t, l, hl, hj'⟩ : ∃ t l, l < 256 ∧ j.val = 256 * t + l :=
      ⟨j.val / 256, j.val % 256, Nat.mod_lt _ (by decide), by omega⟩
    rw [joinA_apply _ i j ⟨t, by omega⟩ ⟨l, hl⟩ hj', prodA_apply hp,
      ← sum_stretch (slabRow y i) j (256 * t) 256 (fun q hq hn => by unfold near at hn; omega)]
    refine Finset.sum_congr rfl fun k _ => ?_
    rw [hj']; simp only [near_shift]

variable {b : FVec Ideal S160x160 .bf16}

/-- The block band: 1 at two positions of the same half at most 16 apart, else 0. -/
def BlockBand (b : FVec Ideal S160x160 .bf16) : Prop :=
  ∀ r c : Fin 160, b (ix2 r c) = if near r c ∧ (r.val / 80 = c.val / 80) then 1 else 0

/-- The upper half of the contraction is the column-window sum of the first slab. -/
theorem colSum_top (hb : BlockBand b) (u v : FVec Ideal S80x3000 .f32) (i : Fin 80) (j : Fin 3000) :
    top (colSum b u v) (ix2 i j) = winSum (fun r => u (ix2 r j)) i := by
  pointwise [top, colSum]
  refine (congrArg₂ (· + ·) (Finset.sum_congr rfl fun r _ => ?_) (Finset.sum_eq_zero fun r _ => ?_)).trans (add_zero _)
  · rw [hb]
    have : ((r : Nat) / 80 = (i : Nat) / 80) := by omega
    simp only [this, and_true]
    split <;> simp
  · rw [hb, if_neg (by simp only; omega), zero_mul]

/-- The lower half of the contraction is the column-window sum of the second slab. -/
theorem colSum_bot (hb : BlockBand b) (u v : FVec Ideal S80x3000 .f32) (i : Fin 80) (j : Fin 3000) :
    bot (colSum b u v) (ix2 i j) = winSum (fun r => v (ix2 r j)) i := by
  pointwise [bot, colSum]
  refine (congrArg₂ (· + ·) (Finset.sum_eq_zero fun r _ => ?_) (Finset.sum_congr rfl fun r _ => ?_)).trans (zero_add _)
  · rw [hb, if_neg (by simp only; omega), zero_mul]
  · rw [hb]
    have : ((80 + r : Nat) / 80 = (80 + i : Nat) / 80) := by omega
    simp only [this, and_true, near_shift]
    split <;> simp

end Cert.KernelIdeal.Local
-- ==== Proof.Host.lean ====
/-
  What the host part of the program hands to the kernel: the band of the block of two slabs, the band
  of one tile, the reciprocals of the counts, the mask of the columns that the shifted tiles serve, and
  the input with its axis of size one dropped. Each is read at an index.
-/
module

public import proofs.«01_k».proof.Proof.Gen.KernelIdeal.Frame
public import proofs.«01_k».proof.Proof.SlabValue
public import Idealize.ShloMosaic.Lib.StableHlo.ReadAt

@[expose] public section

set_option maxRecDepth 16384

noncomputable section

namespace Cert.KernelIdeal.Local

open Idealize.ShloMosaic Idealize.ShloMosaic.TcCoe Idealize.SL.Sem
open Cert.KernelIdeal Cert.KernelIdeal.Gen Cert.LocalNorm

/-! ## Words -/

/-- The bit that says that a difference is at most 16 in size. -/
def smallWord (d : BitVec 32) : BitVec 1 := IntOp.cmpi .sle (IntOp.absi d) 16#32

/-- The sign of a word. -/
def signWord (a : BitVec 32) : BitVec 32 := if a = 0 then 0 else if a.msb = true then -1 else 1

/-- The quotient by 80, rounded down. -/
def floorWord (a : BitVec 32) : BitVec 32 :=
  Scalar.select (IntOp.andi (IntOp.cmpi .ne (signWord a) (signWord 80#32)) (IntOp.cmpi .ne (IntOp.remsi .host a 80#32) 0#32))
    (IntOp.subi (IntOp.divsi .host a 80#32) 1#32) (IntOp.divsi .host a 80#32)

/-- The divisor 256, replaced by 1 were it 0. -/
def divisorWord : BitVec 32 := Scalar.select (IntOp.cmpi .eq 256#32 0#32) 1#32 256#32

/-- The remainder by 256, with the sign of the divisor. -/
def modWord (a : BitVec 32) : BitVec 32 :=
  Scalar.select
    (IntOp.andi
      (IntOp.cmpi .ne (IntOp.cmpi .slt (IntOp.remsi .host a divisorWord) 0#32) (IntOp.cmpi .slt divisorWord 0#32))
      (IntOp.cmpi .ne (IntOp.remsi .host a divisorWord) 0#32))
    (IntOp.addi (IntOp.remsi .host a divisorWord) divisorWord) (IntOp.remsi .host a divisorWord)

/-- The bit of a column's mask. -/
def maskWord (a : BitVec 32) : BitVec 1 :=
  IntOp.andi (IntOp.andi (IntOp.ori (IntOp.cmpi .sge (modWord a) 240#32) (IntOp.cmpi .slt (modWord a) 16#32))
    (IntOp.cmpi .sge a 240#32)) (IntOp.cmpi .slt a 2960#32)

/-- The number of places near `a` on an axis whose last place is `t`. -/
def countWord (t a : BitVec 32) : BitVec 32 :=
  IntOp.addi (IntOp.subi (IntOp.minsi (IntOp.addi a 16#32) t) (IntOp.maxsi (IntOp.subi a 16#32) 0#32)) 1#32

/-- `smallWord` of a difference between -255 and 255. -/
theorem smallWord_ofInt : ∀ d : Fin 511,
    smallWord (BitVec.ofInt 32 ((d.val : Int) - 255)) = if 239 ≤ d.val ∧ d.val ≤ 271 then 1#1 else 0#1 := by
  decide +kernel

/-- `smallWord` of the difference of two numbers below 256 says whether they are near. -/
theorem smallWord_sub (a b : Nat) (ha : a < 256) (hb : b < 256) :
    smallWord (IntOp.subi (BitVec.ofNat 32 a) (BitVec.ofNat 32 b)) = if near a b then 1#1 else 0#1 := by
  have h := smallWord_ofInt ⟨a + 255 - b, by omega⟩
  have e : (((⟨a + 255 - b, by omega⟩ : Fin 511).val : Int) - 255) = (a : Int) - (b : Int) := by
    show ((a + 255 - b : Nat) : Int) - 255 = _
    omega
  have s : BitVec.ofInt 32 ((a : Int) - (b : Int)) = IntOp.subi (BitVec.ofNat 32 a) (BitVec.ofNat 32 b) := by
    unfold IntOp.subi
    apply BitVec.eq_of_toInt_eq
    have t (n : Nat) (hn : n < 256) : (BitVec.ofNat 32 n).toInt = n := by
      rw [BitVec.toInt_eq_toNat_of_lt (by rw [BitVec.toNat_ofNat]; omega), BitVec.toNat_ofNat, Nat.mod_eq_of_lt (by omega)]
    rw [BitVec.toInt_ofInt, BitVec.toInt_sub, t a ha, t b hb]
  rw [e, s] at h
  rw [h]
  refine if_congr ?_ rfl rfl
  show (239 ≤ a + 255 - b ∧ a + 255 - b ≤ 271) ↔ (a ≤ b + 16 ∧ b ≤ a + 16)
  omega

/-- `floorWord` below 160 is the quotient. -/
theorem floorWord_ofNat : ∀ a : Fin 160, floorWord (BitVec.ofNat 32 a.val) = BitVec.ofNat 32 (a.val / 80) := by
  decide +kernel

/-- The two quotients compared: whether two rows of the block are of one slab. -/
theorem floorWord_eq (a b : Fin 160) :
    IntOp.cmpi .eq (floorWord (BitVec.ofNat 32 a.val)) (floorWord (BitVec.ofNat 32 b.val))
      = if a.val / 80 = b.val / 80 then 1#1 else 0#1 := by
  rw [floorWord_ofNat, floorWord_ofNat]
  have ha : a.val / 80 < 2 := by omega
  have hb : b.val / 80 < 2 := by omega
  generalize a.val / 80 = p at *
  generalize b.val / 80 = q at *
  exact (by decide : ∀ p q : Fin 2, IntOp.cmpi .eq (BitVec.ofNat 32 p.val) (BitVec.ofNat 32 q.val)
    = if p.val = q.val then 1#1 else 0#1) ⟨p, ha⟩ ⟨q, hb⟩

/-- `maskWord` on the columns of a slab. -/
theorem maskWord_ofNat : ∀ a : Fin 3000, maskWord (BitVec.ofNat 32 a.val) = if shifted a.val then 1#1 else 0#1 := by
  decide +kernel

/-- `countWord` on the rows of a slab. -/
theorem countWord_row : ∀ a : Fin 80, countWord 79#32 (BitVec.ofNat 32 a.val) = BitVec.ofNat 32 (winCount 80 a.val) := by
  decide +kernel

/-- `countWord` on the columns of a slab. -/
theorem countWord_col : ∀ a : Fin 3000,
    countWord 2999#32 (BitVec.ofNat 32 a.val) = BitVec.ofNat 32 (winCount 3000 a.val) := by
  decide +kernel

/-- A bit as a number. -/
theorem bit_value {φ : FTy} (P : Prop) [Decidable P] :
    (FloatOps.uitofp φ (if P then 1#1 else 0#1) : Ideal φ) = (if P then 1 else 0 : EReal) := by
  show ((((if P then 1#1 else 0#1 : BitVec 1).toNat : ℝ)) : EReal) = _
  split <;> simp

/-- The conjunction of two bits. -/
theorem bit_and (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- The product of two counts as a number. -/
theorem count_value {φ : FTy} (p q : Nat) (hp : p ≤ 33) (hq : q ≤ 33) :
    (FloatOps.sitofp φ (IntOp.muli (BitVec.ofNat 32 p) (BitVec.ofNat 32 q)) : Ideal φ) = (((p * q : Nat) : ℝ) : EReal) := by
  have h : p * q ≤ 33 * 33 := Nat.mul_le_mul hp hq
  show (((IntOp.muli (BitVec.ofNat 32 p) (BitVec.ofNat 32 q)).toInt : ℝ) : EReal) = _
  unfold IntOp.muli
  rw [← BitVec.ofNat_mul, BitVec.toInt_eq_toNat_of_lt (by rw [BitVec.toNat_ofNat]; omega), BitVec.toNat_ofNat,
    Nat.mod_eq_of_lt (by omega)]
  norm_num

/-! ## Reads -/

variable (m : (ℓ : Loc nD τ sig) → Buf (Elt Ideal) ℓ) (c : Dev nD)

/-- The input of the program on a device. -/
abbrev input : S64x1x80x3000.Idx → EReal := m ((c : Thread nD τ).loc main_arg0)

/-- The band of one tile. -/
theorem band_read (k l : Fin 256) : V m c main_v60 (ix2 k l) = (if near k.val l.val then 1 else 0 : EReal) := by
  unfold V V0
  after_reads_at
  show FloatOps.uitofp (F := Ideal) .bf16 (smallWord (IntOp.subi (BitVec.ofNat 32 k.val) (BitVec.ofNat 32 l.val))) = _
  rw [smallWord_sub _ _ k.isLt l.isLt]
  exact bit_value _

/-- The reciprocals of the counts. -/
theorem count_read (k : Fin 80) (l : Fin 3000) :
    (V m c main_v50 (ix2 k l) : EReal) = Ideal.div 1 (boxCount 80 3000 k.val l.val) := by
  unfold V V0
  after_reads_at
  show Ideal.div 1 (FloatOps.sitofp (F := Ideal) .f32
    (IntOp.muli (countWord 79#32 (BitVec.ofNat 32 k.val)) (countWord 2999#32 (BitVec.ofNat 32 l.val)))) = _
  rw [countWord_row, countWord_col]
  exact congrArg _ (count_value _ _ (winCount_le) (winCount_le))

/-- The mask of the columns that the shifted tiles serve. -/
theorem mask_read (k : Fin 80) (l : Fin 3000) : V m c main_v74 (ix2 k l) = (if shifted l.val then 1 else 0 : EReal) := by
  unfold V V0
  after_reads_at
  show FloatOps.uitofp (F := Ideal) .f32 (maskWord (BitVec.ofNat 32 l.val)) = _
  rw [maskWord_ofNat]
  exact bit_value _

/-- The band of the block of two slabs. -/
theorem block_read (k l : Fin 160) :
    V m c main_v18 (ix2 k l) = (if near k.val l.val ∧ k.val / 80 = l.val / 80 then 1 else 0 : EReal) := by
  unfold V V0
  after_reads_at
  show FloatOps.uitofp (F := Ideal) .bf16 (IntOp.andi (smallWord (IntOp.subi (BitVec.ofNat 32 k.val) (BitVec.ofNat 32 l.val)))
    (IntOp.cmpi .eq (floorWord (BitVec.ofNat 32 k.val)) (floorWord (BitVec.ofNat 32 l.val)))) = _
  rw [smallWord_sub _ _ (by omega) (by omega), floorWord_eq, bit_and]
  exact bit_value _

/-- The input with its axis of size one dropped. -/
theorem input_read (n : Fin 64) (k : Fin 80) (l : Fin 3000) :
    V m c main_v0 (ix3 n k l) = input m c (ix4 n 0 k l) := by
  unfold V V0
  after_reads_at
  try rfl

end Cert.KernelIdeal.Local
-- ==== Proof.NormValue.lean ====
/-
  The two slabs one grid point stores are the local normalisations of the two images it loaded (`normA_apply`,
  `normB_apply`).
-/
module

public import proofs.«01_k».proof.Proof.SlabValue

@[expose] public section

set_option maxRecDepth 16384

noncomputable section

namespace Cert.KernelIdeal.Local

open Idealize.ShloMosaic Idealize.SL.Sem
open Cert.KernelIdeal Cert.KernelIdeal.Gen Cert.LocalNorm

/-- The small constant added to the deviation. -/
abbrev eps : EReal := (Scalar.ofBits .f32 0x322BCC77#32 : Ideal .f32)

/-- A slab as a function of its two coordinates. -/
def grid {φ : FTy} (y : FVec Ideal S80x3000 φ) : Fin 80 → Fin 3000 → EReal := fun r q => y (ix2 r q)

variable {b : FVec Ideal S160x160 .bf16} {p : FVec Ideal S256x256 .bf16} {ic mk : FVec Ideal S80x3000 .f32}
  (hb : BlockBand b) (hp : ∀ k l, p (ix2 k l) = if near k l then 1 else 0)
  (hm : ∀ i j, mk (ix2 i j) = if shifted j.val then 1 else 0)
  (hc : ∀ (i : Fin 80) (j : Fin 3000), ic (ix2 i j) = Ideal.div 1 (boxCount 80 3000 i j))
  (x y : FVec Ideal S80x3000 .f32) (i : Fin 80) (j : Fin 3000)

include hb hp hm

/-- The upper half of the stacked box sums is the box sums of the first slab, -/
theorem boxes_top : top (boxes b p mk x y) (ix2 i j) = boxSum (grid x) i j := by
  unfold boxes
  rw [colSum_top hb]
  unfold boxSum
  congr 1
  funext r
  rw [boxW_apply hp hm]
  rfl

/-- and the lower half those of the second. -/
theorem boxes_bot : bot (boxes b p mk x y) (ix2 i j) = boxSum (grid y) i j := by
  unfold boxes
  rw [colSum_bot hb]
  unfold boxSum
  congr 1
  funext r
  rw [boxW_apply hp hm]
  rfl

include hc

/-- Multiplying by the table of reciprocals is dividing by the count. -/
theorem mul_ic (z : EReal) : z * ic (ix2 i j) = Ideal.div z (boxCount 80 3000 i j) := by
  rw [hc]
  exact mul_inv_count z _ (Nat.mul_pos (winCount_pos i.isLt) (winCount_pos j.isLt))

/-- The first slab less the mean of each entry's window. -/
theorem centA_apply : centA b p ic mk x y (ix2 i j) = centred (grid x) i j := by
  pointwise [centA]
  rw [boxes_top hb hp hm, mul_ic hb hp hm hc]
  rfl

/-- The second slab less the mean of each entry's window. -/
theorem centB_apply : centB b p ic mk x y (ix2 i j) = centred (grid y) i j := by
  pointwise [centB]
  rw [boxes_bot hb hp hm, mul_ic hb hp hm hc]
  rfl

/-- The first stored slab is the local normalisation of the first image, -/
theorem normA_apply : normA b p ic mk x y (ix2 i j) = normalised eps (grid x) i j := by
  have e : grid (mulf (centA b p ic mk x y) (centA b p ic mk x y))
      = fun r q => centred (grid x) r q * centred (grid x) r q := by
    funext r q
    rw [← centA_apply hb hp hm hc x y r q]
    rfl
  pointwise [normA, over, sqs]
  rw [boxes_top hb hp hm, mul_ic hb hp hm hc, centA_apply hb hp hm hc, e]
  rfl

/-- and the second that of the second. -/
theorem normB_apply : normB b p ic mk x y (ix2 i j) = normalised eps (grid y) i j := by
  have e : grid (mulf (centB b p ic mk x y) (centB b p ic mk x y))
      = fun r q => centred (grid y) r q * centred (grid y) r q := by
    funext r q
    rw [← centB_apply hb hp hm hc x y r q]
    rfl
  pointwise [normB, over, sqs]
  rw [boxes_bot hb hp hm, mul_ic hb hp hm hc, centB_apply hb hp hm hc, e]
  rfl

end Cert.KernelIdeal.Local
-- ==== Proof.Run.lean ====
/-
  The run of the ideal kernel, read: every grid point writes two normalised images, the 32 points fill
  the 64 images of the output array, and the last host operation only adds an axis of size one.
-/
module

public import proofs.«01_k».proof.Proof.Host
public import proofs.«01_k».proof.Proof.NormValue
public import Idealize.ShloMosaic.Lib.Pipeline.Value
public import Idealize.ShloMosaic.Lib.Pipeline.ValueKit.Tiles

@[expose] public section

set_option maxRecDepth 16384

noncomputable section

namespace Cert.KernelIdeal.Local

open Idealize.ShloMosaic Idealize.ShloMosaic.TcCoe Idealize.SL.Sem
open Idealize.ShloMosaic.Pipeline (Dat)
open Cert.KernelIdeal Cert.KernelIdeal.Gen Cert.LocalNorm

/-! ## One grid point -/

/-- The origin of a plane, as a constant function. -/
theorem zero2 : (![0, 0] : Fin 2 → Nat) = fun _ => 0 := funext fun a => by fin_cases a <;> rfl

/-- The first image of a loaded block. -/
theorem grid_slab0 (x0 : Vec Ideal S2x80x3000 .f32) : grid (slab0 x0) = fun r q => x0 (ix3 0 r q) := by
  funext r q
  show slab0 x0 (ix2 r q) = _
  pointwise [slab0]

/-- The second image of a loaded block. -/
theorem grid_slab1 (x0 : Vec Ideal S2x80x3000 .f32) : grid (slab1 x0) = fun r q => x0 (ix3 1 r q) := by
  funext r q
  show slab1 x0 (ix2 r q) = _
  pointwise [slab1]

/-- What one grid point writes: each of its two images normalised. -/
theorem out_apply (x0 : Vec Ideal S2x80x3000 .f32) (x1 : Vec Ideal S160x160 .bf16) (x2 : Vec Ideal S256x256 .bf16)
    (x3 : Vec Ideal S80x3000 .f32) (x4 : Vec Ideal S80x3000 .f32)
    (h1 : ∀ r c : Fin 160, x1 (ix2 r c) = (if near r.val c.val ∧ r.val / 80 = c.val / 80 then 1 else 0 : EReal))
    (h2 : ∀ k l : Fin 256, x2 (ix2 k l) = (if near k.val l.val then 1 else 0 : EReal))
    (h3 : ∀ (i : Fin 80) (j : Fin 3000), x3 (ix2 i j) = Ideal.div 1 (boxCount 80 3000 i.val j.val))
    (h4 : ∀ (i : Fin 80) (j : Fin 3000), x4 (ix2 i j) = (if shifted j.val then 1 else 0 : EReal))
    (a : Fin 2) (i : Fin 80) (j : Fin 3000) :
    out0_5 x0 x1 x2 x3 x4 (ix3 a i j) = normalised eps (fun r q => x0 (ix3 a r q)) i j := by
  have e1 : k0_pay2 (View.ld x1 r0_0) = x1 := by rw [View.ld_unit_zero zero2]; exact shapeCast_self _ _
  have e2 : k0_pay3 (View.ld x2 r0_1) = x2 := by rw [View.ld_unit_zero zero2]; exact shapeCast_self _ _
  have e3 : k0_pay4 (View.ld x3 r0_2) = x3 := by rw [View.ld_unit_zero zero2]; exact shapeCast_self _ _
  have e4 : k0_pay5 (View.ld x4 r0_2) = x4 := by rw [View.ld_unit_zero zero2]; exact shapeCast_self _ _
  rw [out_eq, e1, e2, e3, e4]
  refine View.canon_eq_of_allAt _ _ _ (View.cover_of_tiled_head _ _ _ rfl _)
    (View.allAt_cons_unit _ _ _ _ _ (fun x hx => ?_) (View.allAt_cons_unit _ _ _ _ _ (fun x hx => ?_) (View.allAt_nil _ _)))
  · have x00 : (x 0).val < 1 := (x 0).isLt
    have q0 : a.val = 1 + (x 0).val := hx 0
    have q1 : i.val = 0 + (x 1).val := hx 1
    have q2 : j.val = 0 + (x 2).val := hx 2
    obtain rfl : a = 1 := Fin.ext (by simp only [Fin.val_one]; omega)
    have ex : x = ix3 0 i j := by
      funext b; fin_cases b <;> apply Fin.ext
      · show (x 0).val = 0; omega
      · show (x 1).val = i.val; omega
      · show (x 2).val = j.val; omega
    rw [ex, ← grid_slab1, ← normB_apply h1 h2 h4 h3 (slab0 x0) (slab1 x0) i j]
    pointwise []
  · have x00 : (x 0).val < 1 := (x 0).isLt
    have q0 : a.val = 0 + (x 0).val := hx 0
    have q1 : i.val = 0 + (x 1).val := hx 1
    have q2 : j.val = 0 + (x 2).val := hx 2
    obtain rfl : a = 0 := Fin.ext (by simp only [Fin.val_zero]; omega)
    have ex : x = ix3 0 i j := by
      funext b; fin_cases b <;> apply Fin.ext
      · show (x 0).val = 0; omega
      · show (x 1).val = i.val; omega
      · show (x 2).val = j.val; omega
    rw [ex, ← grid_slab0, ← normA_apply h1 h2 h4 h3 (slab0 x0) (slab1 x0) i j]
    pointwise []

/-! ## The blocks -/

variable (m : (ℓ : Loc nD τ sig) → Buf (Elt Ideal) ℓ) (ρ : Dev nD → PrngReg) (c : Dev nD)

/-- Image `n` of the input. -/
def picture (n : Fin 64) : Fin 80 → Fin 3000 → EReal := fun r q => input m c (ix4 n 0 r q)

/-- The output array: each image of the input normalised. -/
def normed : S64x80x3000.Idx → EReal := fun i => normalised eps (picture m c (i 0)) (i 1) (i 2)

/-- Where point `t` reads the input and writes the output. -/
theorem index_images : ∀ t : Fin grid0.N, (win0_0.index t 0 = t.val ∧ win0_0.index t 1 = 0 ∧ win0_0.index t 2 = 0)
    ∧ (win0_5.index t 0 = t.val ∧ win0_5.index t 1 = 0 ∧ win0_5.index t 2 = 0) := by
  decide +kernel

/-- Where point `t` reads the four tables: at their start. -/
theorem index_tables : ∀ t : Fin grid0.N, (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) := by
  decide +kernel

/-- There are 32 grid points. -/
theorem points_lt (t : Fin cfg0.N) : t.val < 32 := lt_of_lt_of_eq t.isLt N_0

/-- Image `a` of the pair that point `t` serves. -/
def imageAt (t : Fin cfg0.N) (a : Fin 2) : Fin 64 := ⟨2 * t.val + a.val, by have := points_lt t; omega⟩

/-- The pair of images that point `t` reads. -/
theorem block0 (t : Fin cfg0.N) (a : Fin 2) (r : Fin 80) (q : Fin 3000) :
    iblk m c 0 t (ix3 a r q) = picture m c (imageAt t a) r q := by
  refine Eq.trans ?_ (input_read m c (imageAt t a) r q)
  obtain ⟨⟨h0, h1, h2⟩, -⟩ := index_images t
  show V m c main_v0 _ = V m c main_v0 _
  congr 1
  funext b; fin_cases b <;> apply Fin.ext
  · show win0_0.index t 0 * 2 + 1 * a.val = 2 * t.val + a.val
    rw [h0]; omega
  · show win0_0.index t 1 * 80 + 1 * r.val = r.val
    rw [h1]; omega
  · show win0_0.index t 2 * 3000 + 1 * q.val = q.val
    rw [h2]; omega

/-- A read of a table at an index with the coordinates `k` and `l`. -/
theorem read_at {α : Type} {n m : Nat} (T : (⟨2, ![n, m]⟩ : Shape).Idx → α) {e : (⟨2, ![n, m]⟩ : Shape).Idx} {k : Fin n}
    {l : Fin m} (h0 : (e 0).val = 0 * n + 1 * k.val) (h1 : (e 1).val = 0 * m + 1 * l.val) : T e = T (ix2 k l) := by
  congr 1
  funext b; fin_cases b <;> apply Fin.ext
  · show (e 0).val = k.val; omega
  · show (e 1).val = l.val; omega

/-- The first table at every point. -/
theorem block1 (t : Fin cfg0.N) (k l : Fin 160) : iblk m c 1 t (ix2 k l) = V m c main_v18 (ix2 k l) :=
  read_at (V m c main_v18) (congrArg (· * 160 + 1 * k.val) (index_tables t).1.1) (congrArg (· * 160 + 1 * l.val) (index_tables t).1.2)

/-- The second table at every point. -/
theorem block2 (t : Fin cfg0.N) (k l : Fin 256) : iblk m c 2 t (ix2 k l) = V m c main_v60 (ix2 k l) :=
  read_at (V m c main_v60) (congrArg (· * 256 + 1 * k.val) (index_tables t).2.1.1) (congrArg (· * 256 + 1 * l.val) (index_tables t).2.1.2)

/-- The third table at every point. -/
theorem block3 (t : Fin cfg0.N) (k : Fin 80) (l : Fin 3000) : iblk m c 3 t (ix2 k l) = V m c main_v50 (ix2 k l) :=
  read_at (V m c main_v50) (congrArg (· * 80 + 1 * k.val) (index_tables t).2.2.1.1) (congrArg (· * 3000 + 1 * l.val) (index_tables t).2.2.1.2)

/-- The fourth table at every point. -/
theorem block4 (t : Fin cfg0.N) (k : Fin 80) (l : Fin 3000) : iblk m c 4 t (ix2 k l) = V m c main_v74 (ix2 k l) :=
  read_at (V m c main_v74) (congrArg (· * 80 + 1 * k.val) (index_tables t).2.2.2.1) (congrArg (· * 3000 + 1 * l.val) (index_tables t).2.2.2.2)

/-! ## The output array -/

/-- What point `t` writes back is its block of the normalised images. -/
theorem flushed_eq (t : Fin cfg0.N) :
    (dats m 0 c).flushed 5 t = (win0_5.blk t).view.read (Elt Ideal) (normed m c) := by
  show (cfg0.win 5).cut (grid0.coords t) ((dats m 0 c).after 5 t) = _
  rw [after0_5]
  funext y
  obtain ⟨-, h0, h1, h2⟩ := index_images t
  obtain ⟨a, i, j, rfl⟩ : ∃ (a : Fin 2) (i : Fin 80) (j : Fin 3000), y = ix3 a i j :=
    ⟨y 0, y 1, y 2, by funext b; fin_cases b <;> rfl⟩
  refine (out_apply _ _ _ _ _ (fun k l => (block1 m c t k l).trans (block_read m c k l))
    (fun k l => (block2 m c t k l).trans (band_read m c k l)) (fun k l => (block3 m c t k l).trans (count_read m c k l))
    (fun k l => (block4 m c t k l).trans (mask_read m c k l)) a i j).trans ?_
  rw [show (fun r q => iblk m c 0 t (ix3 a r q)) = picture m c (imageAt t a) from
    funext fun r => funext fun q => block0 m c t a r q]
  show normed m c (ix3 (imageAt t a) i j) = normed m c _
  congr 1
  funext b; fin_cases b <;> apply Fin.ext
  · show 2 * t.val + a.val = win0_5.index t 0 * 2 + 1 * a.val
    rw [h0]; omega
  · show i.val = win0_5.index t 1 * 80 + 1 * i.val
    rw [h1]; omega
  · show j.val = win0_5.index t 2 * 3000 + 1 * j.val
    rw [h2]; omega

/-- Every index of the output array is in the block of the point that serves its image. -/
theorem cover (i : S64x80x3000.Idx) :
    ∃ t : Fin cfg0.N, (cfg0.win 5).flush t = true ∧ i ∈ ((cfg0.win 5).blk t).view.set := by
  have b0 : (i 0).val < 64 := (i 0).isLt
  have b1 : (i 1).val < 80 := (i 1).isLt
  have b2 : (i 2).val < 3000 := (i 2).isLt
  have hN : cfg0.N = 32 := N_0
  refine ⟨⟨(i 0).val / 2, by omega⟩, flush0_5 _, ?_⟩
  generalize ht : (⟨(i 0).val / 2, by omega⟩ : Fin cfg0.N) = t
  have tv : t.val = (i 0).val / 2 := by rw [← ht]
  obtain ⟨-, h0, h1, h2⟩ := index_images t
  show i ∈ ((View.whole main_v75).slice (win0_5.rect t)).set
  rw [View.set_slice_whole, Rect.mem_set_unit]
  intro a
  match a with
  | ⟨0, _⟩ =>
    show win0_5.index t 0 * 2 ≤ (i 0).val ∧ (i 0).val < win0_5.index t 0 * 2 + 2
    rw [h0]; omega
  | ⟨1, _⟩ =>
    show win0_5.index t 1 * 80 ≤ (i 1).val ∧ (i 1).val < win0_5.index t 1 * 80 + 80
    rw [h1]; omega
  | ⟨2, _⟩ =>
    show win0_5.index t 2 * 3000 ≤ (i 2).val ∧ (i 2).val < win0_5.index t 2 * 3000 + 3000
    rw [h2]; omega

/-- So the output array ends as the normalised images. -/
theorem final_out : (dats m 0 c).arrAt 5 cfg0.N = normed m c :=
  (dats m 0 c).arrAt_eq_of_cover 5 (normed m c) (fun t _ => flushed_eq m c t) cover

/-! ## The result -/

/-- The result: each image of the input normalised, with its axis of size one. -/
def resultOf : S64x1x80x3000.Idx → EReal := fun i => normalised eps (picture m c (i 0)) (i 2) (i 3)

/-- The last host operation adds the axis of size one. -/
theorem tail_result : Pipeline.afterTail₀ cfgs (dats m) 0 (V0 m) [hostOps1] c main_v76 = resultOf m c := by
  funext i
  obtain ⟨n, z, r, q, rfl⟩ : ∃ (n : Fin 64) (z : Fin 1) (r : Fin 80) (q : Fin 3000), i = ix4 n z r q :=
    ⟨i 0, i 1, i 2, i 3, by funext b; fin_cases b <;> rfl⟩
  unfold Pipeline.afterTail₀
  after_reads_at
  have e := Pipeline.withArrays_arr (cfgs 0).spec (by decide) c (V0 m c) (fun w => (dats m 0 c).arrAt w (cfgs 0).N) 5
  exact (congrFun (e.trans (final_out m c)) (ix3 n r q)).trans rfl

/-- The run: the result is the normalised images, and the input ends unchanged. -/
theorem run : θ_run defs (onTc (τ := τ) (main (F := Ideal))) ⟨m, fun _ => 0, ρ⟩ fun r => ∀ c : Dev nD,
    r.2.mem ((c.tc : Thread nD τ).loc main_v76) = resultOf m c
    ∧ r.2.mem ((c.tc : Thread nD τ).loc main_arg0) = m ((c.tc : Thread nD τ).loc main_arg0) :=
  (θ_run defs _ _).mono (fun _ h c =>
    ⟨((h c).2 main_v76 (Pipeline.mem_restRefs_of main_v76 (by decide) (by decide))).trans (tail_result m c),
     ((h c).2 main_arg0 (Pipeline.mem_restRefs_of main_arg0 (by decide) (by decide))).trans (W_main_arg0 m (dats m) c)⟩)
    (run_main m ρ)

end Cert.KernelIdeal.Local
-- ==== Proof.Ref.lean ====
/-
  The reference's result over the extended reals: its sliding-window sums are the box sums of the two inner coordinates
  (`window_apply`), its window count is the number of positions (`counts_apply`), and so each entry of its result is the
  local normalisation of the image it lies in (`result_apply`).
-/
module

public import proofs.«01_k».proof.Proof.Gen.ReferenceIdeal.Run
public import proofs.«01_k».proof.Proof.Box
public import Idealize.ShloMosaic.Lib.Pointwise

@[expose] public section

set_option maxRecDepth 16384

noncomputable section

namespace Cert.ReferenceIdeal.Local

open Idealize.ShloMosaic Idealize.SL.Sem
open Cert.ReferenceIdeal Cert.ReferenceIdeal.Gen Cert.LocalNorm

/-- A left fold that adds is a sum. -/
theorem foldl_sum {n : Nat} (g : Fin n → EReal) : (List.finRange n).foldl (fun r k => r + g k) 0 = ∑ k, g k := by
  rw [Fin.sum_univ_def, List.sum_eq_foldl, List.foldl_map]

/-- A sum over row-major positions is the sum over the indices. -/
theorem sum_rowMajor (s : Shape) (g : s.Idx → EReal) : (∑ k : Fin s.numel, g (s.rowMajor.symm k)) = ∑ w, g w :=
  Equiv.sum_comp s.rowMajor.symm g

/-- One reading of a window of a padded array, at window index `w`, the padding holding `v`. -/
def winRead {s : Shape} (window strides lo : Fin s.rank → Nat) (x : s.Idx → EReal) (v : EReal) (j : Fin s.rank → Nat)
    (w : Shape.Idx ⟨s.rank, window⟩) : EReal :=
  if hin : ∀ a, lo a ≤ j a * strides a + (w a).val ∧ j a * strides a + (w a).val - lo a < s.size a then
    x (fun a => ⟨j a * strides a + (w a).val - lo a, (hin a).2⟩) else v

/-- A sliding-window sum is the fold of its window's readings. -/
theorem window_fold {s t u : Shape} (window strides lo hi : Fin s.rank → Nat) (x : s.Idx → EReal)
    (init : u.Idx → EReal) (h : s.ReduceWindows window strides lo hi t) (hu : 0 < u.numel) (j : t.Idx) :
    Host.reduceWindowAdd (F := Ideal) (φ := .f32) window strides lo hi x init h hu j
      = (List.finRange (Shape.numel ⟨s.rank, window⟩)).foldl
          (fun (r : EReal) k => r + winRead window strides lo x (init (Shape.Idx.first hu)) (fun a => (j (a.cast h.1.symm)).val)
            ((Shape.rowMajor ⟨s.rank, window⟩).symm k)) (init (Shape.Idx.first hu)) := by
  unfold Host.reduceWindowAdd
  rw [Ideal.hostReduceWindowAdd_def]
  unfold Ideal.hostReduceWindowAdd Host.reduceWindow winRead
  dsimp only
  congr!

/-- What a 33 by 33 window of an array padded by 16 zeros on every side reads at offset `(a, b)`. -/
def padRead (f : Fin 80 → Fin 3000 → EReal) (i j a b : Nat) : EReal :=
  if 16 ≤ i + a then ext (fun r => if 16 ≤ j + b then ext (f r) (j + b - 16) else 0) (i + a - 16) else 0

/-- The window's readings sum to the box sum. -/
theorem sum_padRead (f : Fin 80 → Fin 3000 → EReal) (i j : Nat) :
    (∑ a : Fin 33, ∑ b : Fin 33, padRead f i j a b) = boxSum f i j := by
  unfold boxSum
  rw [← sum_slide]
  refine Finset.sum_congr rfl fun a _ => ?_
  unfold padRead
  split
  · unfold ext
    split
    · exact sum_slide (f _) j
    · exact Finset.sum_const_zero
  · exact Finset.sum_const_zero

/-- The sliding-window sum over the two inner coordinates, from zero, is the box sum. -/
theorem window_apply {B : Nat} (x : FVec Ideal ⟨4, ![B, 1, 80, 3000]⟩ .f32) (init : FVec Ideal S_ .f32)
    (h0 : ∀ k, init k = 0)
    (h : (⟨4, ![B, 1, 80, 3000]⟩ : Shape).ReduceWindows ![1, 1, 33, 33] ![1, 1, 1, 1] ![0, 0, 16, 16] ![0, 0, 16, 16]
      ⟨4, ![B, 1, 80, 3000]⟩) (hu : 0 < S_.numel) (n : Fin B) (c : Fin 1) (i : Fin 80) (j : Fin 3000) :
    Host.reduceWindowAdd ![1, 1, 33, 33] ![1, 1, 1, 1] ![0, 0, 16, 16] ![0, 0, 16, 16] x init h hu (ix4 n c i j)
      = boxSum (fun r q => x (ix4 n 0 r q)) i j := by
  rw [window_fold, h0, foldl_sum, sum_rowMajor, sum_idx4, Fin.sum_univ_one, Fin.sum_univ_one, ← sum_padRead]
  refine Finset.sum_congr rfl fun a _ => Finset.sum_congr rfl fun b _ => ?_
  have hc := c.isLt
  have hn := n.isLt
  unfold padRead ext winRead
  split
  · next hin =>
    have h2 := hin 2
    have h3 := hin 3
    change 16 ≤ i.val * 1 + a.val ∧ i.val * 1 + a.val - 16 < 80 at h2
    change 16 ≤ j.val * 1 + b.val ∧ j.val * 1 + b.val - 16 < 3000 at h3
    rw [if_pos (by omega), dif_pos (by omega)]
    dsimp only
    rw [if_pos (by omega), dif_pos (by omega)]
    refine congrArg x (funext fun k => Fin.ext ?_)
    match k with
    | ⟨0, _⟩ => show n.val * 1 + 0 - 0 = n.val; omega
    | ⟨1, _⟩ => show c.val * 1 + 0 - 0 = 0; omega
    | ⟨2, _⟩ => show i.val * 1 + a.val - 16 = i.val + a.val - 16; omega
    | ⟨3, _⟩ => show j.val * 1 + b.val - 16 = j.val + b.val - 16; omega
  · next hin =>
    by_cases h1 : 16 ≤ i.val + a.val
    · rw [if_pos h1]
      by_cases h2 : i.val + a.val - 16 < 80
      · rw [dif_pos h2]
        dsimp only
        by_cases h3 : 16 ≤ j.val + b.val
        · rw [if_pos h3]
          by_cases h4 : j.val + b.val - 16 < 3000
          · refine absurd (fun k => ?_) hin
            match k with
            | ⟨0, _⟩ => show 0 ≤ n.val * 1 + 0 ∧ n.val * 1 + 0 - 0 < B; omega
            | ⟨1, _⟩ => show 0 ≤ c.val * 1 + 0 ∧ c.val * 1 + 0 - 0 < 1; omega
            | ⟨2, _⟩ => show 16 ≤ i.val * 1 + a.val ∧ i.val * 1 + a.val - 16 < 80; omega
            | ⟨3, _⟩ => show 16 ≤ j.val * 1 + b.val ∧ j.val * 1 + b.val - 16 < 3000; omega
          · rw [dif_neg h4]
        · rw [if_neg h3]
      · rw [dif_neg h2]
    · rw [if_neg h1]

/-- The small constant added to the deviation. -/
abbrev eps : EReal := (Scalar.ofBits .f32 0x322BCC77#32 : Ideal .f32)

/-- The array of zeros' one entry, -/
abbrev zero : FVec Ideal S_ .f32 := broadcastInDim S_ ![] bcast_S_S_ (constant S_ .f32 0x00000000#32)

/-- The sliding window starts from zero. -/
theorem zero_apply (k : S_.Idx) : zero k = 0 := by
  rw [show k = ix0 from funext fun a => a.elim0]
  pointwise

/-- The sliding-window sum of an array of 64 images. -/
abbrev window (x : FVec Ideal S64x1x80x3000 .f32) : FVec Ideal S64x1x80x3000 .f32 :=
  Host.reduceWindowAdd ![1, 1, 33, 33] ![1, 1, 1, 1] ![0, 0, 16, 16] ![0, 0, 16, 16] x zero
    reduceWindows_S64x1x80x3000_S64x1x80x3000_w1s1p0_0_w1s1p0_0_w33s1p16_16_w33s1p16_16 h_S_

/-- The window sums of the 64 images. -/
theorem window64_apply (x : FVec Ideal S64x1x80x3000 .f32) (n : Fin 64) (c : Fin 1) (i : Fin 80) (j : Fin 3000) :
    window x (ix4 n c i j) = boxSum (fun r q => x (ix4 n 0 r q)) i j :=
  window_apply x zero zero_apply _ _ n c i j

/-- The reference's counts: the sliding-window sum of ones, repeated for the 64 images. -/
abbrev counts : FVec Ideal S64x1x80x3000 .f32 :=
  broadcastInDim S64x1x80x3000 ![0, 1, 2, 3] bcast_S1x1x80x3000_S64x1x80x3000_0_1_2_3
    (Host.reduceWindowAdd ![1, 1, 33, 33] ![1, 1, 1, 1] ![0, 0, 16, 16] ![0, 0, 16, 16]
      (broadcastInDim S1x1x80x3000 ![] bcast_S_S1x1x80x3000 (constant S_ .f32 0x3F800000#32)) zero
      reduceWindows_S1x1x80x3000_S1x1x80x3000_w1s1p0_0_w1s1p0_0_w33s1p16_16_w33s1p16_16 h_S_)

/-- The reference's counts: how many positions lie in a place's window. -/
theorem counts_apply (n : Fin 64) (c : Fin 1) (i : Fin 80) (j : Fin 3000) :
    counts (ix4 n c i j) = boxCount 80 3000 i j := by
  pointwise
  rw [window_apply _ _ zero_apply, ← boxSum_one i.isLt j.isLt]
  congr 1
  funext r q
  pointwise

/-- The reference's centred array. -/
abbrev cent (x : FVec Ideal S64x1x80x3000 .f32) : FVec Ideal S64x1x80x3000 .f32 :=
  subf x (Host.divf (window x) counts)

/-- The reference's result. -/
abbrev result (x : FVec Ideal S64x1x80x3000 .f32) : FVec Ideal S64x1x80x3000 .f32 :=
  Host.divf (cent x) (addf (Host.sqrt (Host.divf (window (mulf (cent x) (cent x))) counts))
    (broadcastInDim S64x1x80x3000 ![] bcast_S_S64x1x80x3000 (constant S_ .f32 0x322BCC77#32)))

/-- Image `n` of an array of 64. -/
def image (x : FVec Ideal S64x1x80x3000 .f32) (n : Fin 64) : Fin 80 → Fin 3000 → EReal := fun r q => x (ix4 n 0 r q)

/-- The reference's entries less the mean of their window. -/
theorem cent_apply (x : FVec Ideal S64x1x80x3000 .f32) (n : Fin 64) (c : Fin 1) (i : Fin 80) (j : Fin 3000) :
    cent x (ix4 n c i j) = centred (image x n) i j := by
  show x (ix4 n c i j) - Ideal.div (window x (ix4 n c i j)) (counts (ix4 n c i j)) = _
  rw [counts_apply, window64_apply, Subsingleton.elim c 0]
  rfl

/-- Each entry of the reference's result is the local normalisation of its image. -/
theorem result_apply (x : FVec Ideal S64x1x80x3000 .f32) (n : Fin 64) (c : Fin 1) (i : Fin 80) (j : Fin 3000) :
    result x (ix4 n c i j) = normalised eps (image x n) i j := by
  show Ideal.div (cent x (ix4 n c i j)) (Ideal.sqrt (Ideal.div (window (mulf (cent x) (cent x)) (ix4 n c i j))
    (counts (ix4 n c i j))) + eps) = _
  have e : (fun r q => mulf (cent x) (cent x) (ix4 n 0 r q)) = fun r q => centred (image x n) r q * centred (image x n) r q := by
    funext r q
    rw [← cent_apply x n 0 r q]
    rfl
  rw [counts_apply, window64_apply, cent_apply, e]
  rfl

end Cert.ReferenceIdeal.Local
-- ==== Proof.lean ====
/-
  The proof of `Cert.Claim`: the kernel runs and keeps its input, its idealization is the same program,
  and over the extended reals it computes the local normalisation that the reference computes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, keeps its input, and leaves every semaphore at zero. -/
theorem frame_kernel : Cert.quiescent_Kernel := fun m ρ _ => Cert.Kernel.Gen.frame m ρ

/-- So does the ideal kernel. -/
theorem frame_kernel_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel is the kernel with no operation rewritten. -/
theorem preserves : Cert.preserves_Kernel_KernelIdeal := trivial

/-- The reference's formula at the kernel's input is what the kernel's result is. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Local.result (Cert.KernelIdeal.Local.input m c) = Cert.KernelIdeal.Local.resultOf m c := by
  funext i
  obtain ⟨n, z, r, q, rfl⟩ : ∃ (n : Fin 64) (z : Fin 1) (r : Fin 80) (q : Fin 3000), i = ix4 n z r q :=
    ⟨i 0, i 1, i 2, i 3, by funext b; fin_cases b <;> rfl⟩
  exact Cert.ReferenceIdeal.Local.result_apply _ n z r q

/-- On one input the ideal kernel and the reference end with one result: at every place, the entry less the mean over
    the 33 by 33 places around it (those inside the image), divided by the root of the mean of the squares of such
    differences plus a small constant. -/
theorem algebraic : Cert.algebraic_KernelIdeal_ReferenceIdeal := by
  intro m ρ m' ρ' _ agree
  refine ⟨fun c => Cert.KernelIdeal.Local.resultOf m c, Cert.KernelIdeal.Local.run m ρ, ?_⟩
  refine (θ_run Cert.ReferenceIdeal.defs _ _).mono (fun _ h c => ⟨(h c).1.trans ?_, (h c).2⟩)
    (Cert.ReferenceIdeal.Value.run (F := Ideal) m' ρ')
  rw [agree c]
  exact result_eq m c

/-- All claims. -/
theorem claim : Cert.Claim :=
  ⟨Cert.Kernel.Gen.facts, Cert.KernelIdeal.Gen.facts, Cert.ReferenceIdeal.Gen.facts,
    frame_kernel, frame_kernel_ideal, frame_reference, preserves, algebraic⟩

end Cert.Proof

end
